-- ==== Defs.lean ====
def Pre_Packed (m : (ℓ : Loc Cert.Packed.nD Cert.Packed.τ Cert.Packed.sig) → Buf (Elt Bits) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Packed [hPacked : Cert.Packed.Facts] : Prop :=
  ∀ (m : (ℓ : Loc Cert.Packed.nD Cert.Packed.τ Cert.Packed.sig) → Buf (Elt Bits) ℓ) (g : Dev Cert.Packed.nD → PrngReg), Pre_Packed m →
    θ_run (Cert.Packed.defs (F := Bits)) (onTc (τ := Cert.Packed.τ) (Cert.Packed.main (F := Bits))) ⟨m, fun _ => 0, g⟩ (fun r => (∀ c : Dev Cert.Packed.nD,
      r.2.mem ((c.tc : Thread Cert.Packed.nD Cert.Packed.τ).loc Cert.Packed.main_arg0) = m ((c.tc : Thread Cert.Packed.nD Cert.Packed.τ).loc Cert.Packed.main_arg0)
      ∧ r.2.mem ((c.tc : Thread Cert.Packed.nD Cert.Packed.τ).loc Cert.Packed.main_arg1) = m ((c.tc : Thread Cert.Packed.nD Cert.Packed.τ).loc Cert.Packed.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hPacked : Cert.Packed.Facts) (hKernel : Cert.Kernel.Facts) (hKernelIdeal : Cert.KernelIdeal.Facts) (hReferenceIdeal : Cert.ReferenceIdeal.Facts) (hPre_finite : Cert.Pre_finite.Facts),
    quiescent_Packed (hPacked := hPacked)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x4096 : Shape := ⟨3, ![4, 4096, 4096]⟩
abbrev S64x4096 : Shape := ⟨2, ![64, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S4x4096x4096 .f32) (main_arg1 : FVec F S64x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Packed.lean ====
abbrev S4x4096x4096 : Shape := ⟨3, ![4, 4096, 4096]⟩
abbrev S64x4096 : Shape := ⟨2, ![64, 4096]⟩
abbrev S16384x4096 : Shape := ⟨2, ![16384, 4096]⟩
abbrev S8x16384 : Shape := ⟨2, ![8, 16384]⟩
abbrev S16384x8 : Shape := ⟨2, ![16384, 8]⟩
abbrev S4x4096x8 : Shape := ⟨3, ![4, 4096, 8]⟩
abbrev S1024x4096 : Shape := ⟨2, ![1024, 4096]⟩
abbrev S8x1024 : Shape := ⟨2, ![8, 1024]⟩
abbrev S4096x64 : Shape := ⟨2, ![4096, 64]⟩
abbrev S1024x64 : Shape := ⟨2, ![1024, 64]⟩
abbrev S1024 : Shape := ⟨1, ![1024]⟩
abbrev S1024x1 : Shape := ⟨2, ![1024, 1]⟩
abbrev S1024x8 : Shape := ⟨2, ![1024, 8]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S16384x4096, .f32⟩
  | .hbm, ⟨3, _⟩ => ⟨S8x16384, .f32⟩
  | .hbm, ⟨4, _⟩ => ⟨S8x16384, .i32⟩
  | .hbm, ⟨5, _⟩ => ⟨S16384x8, .f32⟩
  | .hbm, ⟨6, _⟩ => ⟨S4x4096x8, .f32⟩
  | .hbm, ⟨7, _⟩ => ⟨S16384x8, .i32⟩
  | .hbm, ⟨8, _⟩ => ⟨S4x4096x8, .i32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S8x1024, .f32⟩
  | .local _ .vmem, ⟨4, _⟩ => ⟨S8x1024, .f32⟩
  | .local _ .vmem, ⟨5, _⟩ => ⟨S8x1024, .i32⟩
  | .local _ .vmem, ⟨6, _⟩ => ⟨S8x1024, .i32⟩
  | .local _ .vmem, ⟨7, _⟩ => ⟨S4096x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v2 : Ref sig .tc := ⟨.hbm, 5, rfl⟩
abbrev main_v0_0 : Ref sig .tc := ⟨.hbm, 6, rfl⟩
abbrev main_call0_v4 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel.lean ====
abbrev S4x4096x4096 : Shape := ⟨3, ![4, 4096, 4096]⟩
abbrev S64x4096 : Shape := ⟨2, ![64, 4096]⟩
abbrev S16384x4096 : Shape := ⟨2, ![16384, 4096]⟩
abbrev S8x16384 : Shape := ⟨2, ![8, 16384]⟩
abbrev S16384x8 : Shape := ⟨2, ![16384, 8]⟩
abbrev S4x4096x8 : Shape := ⟨3, ![4, 4096, 8]⟩
abbrev S1024x4096 : Shape := ⟨2, ![1024, 4096]⟩
abbrev S8x1024 : Shape := ⟨2, ![8, 1024]⟩
abbrev S4096x64 : Shape := ⟨2, ![4096, 64]⟩
abbrev S1024x64 : Shape := ⟨2, ![1024, 64]⟩
abbrev S1024 : Shape := ⟨1, ![1024]⟩
abbrev S1024x1 : Shape := ⟨2, ![1024, 1]⟩
abbrev S1024x8 : Shape := ⟨2, ![1024, 8]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S16384x4096, .f32⟩
  | .hbm, ⟨3, _⟩ => ⟨S8x16384, .f32⟩
  | .hbm, ⟨4, _⟩ => ⟨S8x16384, .i32⟩
  | .hbm, ⟨5, _⟩ => ⟨S16384x8, .f32⟩
  | .hbm, ⟨6, _⟩ => ⟨S4x4096x8, .f32⟩
  | .hbm, ⟨7, _⟩ => ⟨S16384x8, .i32⟩
  | .hbm, ⟨8, _⟩ => ⟨S4x4096x8, .i32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S8x1024, .f32⟩
  | .local _ .vmem, ⟨4, _⟩ => ⟨S8x1024, .f32⟩
  | .local _ .vmem, ⟨5, _⟩ => ⟨S8x1024, .i32⟩
  | .local _ .vmem, ⟨6, _⟩ => ⟨S8x1024, .i32⟩
  | .local _ .vmem, ⟨7, _⟩ => ⟨S4096x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v2 : Ref sig .tc := ⟨.hbm, 5, rfl⟩
abbrev main_v0_0 : Ref sig .tc := ⟨.hbm, 6, rfl⟩
abbrev main_call0_v4 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x4096 : Shape := ⟨3, ![4, 4096, 4096]⟩
abbrev S64x4096 : Shape := ⟨2, ![64, 4096]⟩
abbrev S4096x64 : Shape := ⟨2, ![4096, 64]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x4096x8 : Shape := ⟨3, ![4, 4096, 8]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S4096x64, .f32⟩
  | .hbm, ⟨3, _⟩ => ⟨S4x4096x64, .f32⟩
  | .hbm, ⟨4, _⟩ => ⟨S_, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S4x4096x1, .f32⟩
  | .hbm, ⟨10, _⟩ => ⟨S4x4096x64, .f32⟩
  | .hbm, ⟨11, _⟩ => ⟨S4x4096x64, .f32⟩
  | .hbm, ⟨12, _⟩ => ⟨S4x4096x64, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x64, .f32⟩
  | .hbm, ⟨17, _⟩ => ⟨S4x4096x64, .f32⟩
  | .hbm, ⟨18, _⟩ => ⟨S4x4096x8, .f32⟩
  | .hbm, ⟨19, _⟩ => ⟨S4x4096x8, .i32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x8, .f32⟩
  | .hbm, ⟨24, _⟩ => ⟨S4x4096x8, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Pick.lean ====
/-
  SELECTION BY ROUNDS ON ONE ROW. A row of 64 scores `f`, all of them above zero. A round takes the greatest entry, at the
  least lane that holds it, and overwrites that lane with zero. Eight rounds give, in order, the first eight positions of a
  stable sort of the lanes by decreasing score: the routing kernel selects by rounds, the reference by that sort.
-/
module

public import Idealize.ShloMosaic.PureOps.Ideal
public import Idealize.ShloMosaic.Lib.SortPrefix
public import Idealize.ShloMosaic.Lib.TotalOrder

@[expose] public section

noncomputable section

namespace Cert.Router

open Idealize.ShloMosaic

/-- A row: one extended real for each of the 64 lanes. -/
abbrev Row := Fin 64 → EReal

/-- The greatest entry of a row. -/
def top (f : Row) : EReal := Finset.univ.fold max ⊥ f

theorem le_top (f : Row) (i : Fin 64) : f i ≤ top f :=
  (Finset.le_fold_max (f i)).mpr (Or.inr ⟨i, Finset.mem_univ i, le_rfl⟩)

/-- Some lane holds the greatest entry. -/
theorem exists_top (f : Row) : ∃ i, f i = top f := by
  obtain ⟨i, -, hi⟩ := Finset.exists_max_image Finset.univ f ⟨0, Finset.mem_univ _⟩
  refine ⟨i, le_antisymm (le_top f i) ?_⟩
  exact (Finset.fold_max_le (f i)).mpr ⟨bot_le, fun j hj => hi j hj⟩

/-- The lanes that hold the greatest entry. -/
def holders (f : Row) : Finset (Fin 64) := Finset.univ.filter fun i => f i = top f

theorem holders_nonempty (f : Row) : (holders f).Nonempty :=
  let ⟨i, hi⟩ := exists_top f
  ⟨i, Finset.mem_filter.mpr ⟨Finset.mem_univ i, hi⟩⟩

/-- The least lane that holds the greatest entry. -/
def first (f : Row) : Fin 64 := (holders f).min' (holders_nonempty f)

theorem apply_first (f : Row) : f (first f) = top f :=
  (Finset.mem_filter.mp ((holders f).min'_mem (holders_nonempty f))).2

theorem first_le (f : Row) (i : Fin 64) (h : f i = top f) : first f ≤ i :=
  (holders f).min'_le i (Finset.mem_filter.mpr ⟨Finset.mem_univ i, h⟩)

/-- One round: the chosen lane overwritten with zero. -/
def strike (f : Row) : Row := fun i => if i = first f then 0 else f i

/-- The row after `r` rounds. -/
def after (f : Row) : Nat → Row
  | 0 => f
  | r + 1 => strike (after f r)

/-- The lane that round `r` takes. -/
def pick (f : Row) (r : Nat) : Fin 64 := first (after f r)

/-- After `r` rounds the lanes taken hold zero and the others their own score. -/
theorem after_apply (f : Row) (r : Nat) (i : Fin 64) :
    after f r i = if ∃ q < r, pick f q = i then 0 else f i := by
  induction r with
  | zero => simp [after]
  | succ r ih =>
    unfold after strike
    by_cases h : i = first (after f r)
    · rw [if_pos h, if_pos ⟨r, Nat.lt_succ_self r, h.symm⟩]
    · rw [if_neg h, ih]
      refine if_congr ⟨fun ⟨q, hq, e⟩ => ⟨q, by omega, e⟩, fun ⟨q, hq, e⟩ => ⟨q, ?_, e⟩⟩ rfl rfl
      rcases Nat.lt_succ_iff_lt_or_eq.mp hq with hq | rfl
      · exact hq
      · exact absurd e.symm h

theorem after_of_free (f : Row) (r : Nat) (i : Fin 64) (h : ∀ q < r, pick f q ≠ i) : after f r i = f i := by
  rw [after_apply, if_neg]
  rintro ⟨q, hq, e⟩
  exact h q hq e

/-- Before all lanes are taken, one is free. -/
theorem exists_free (f : Row) (r : Nat) (hr : r < 64) : ∃ i, ∀ q < r, pick f q ≠ i := by
  have hc : ((Finset.range r).image (pick f)).card < (Finset.univ : Finset (Fin 64)).card :=
    lt_of_le_of_lt Finset.card_image_le (by simpa using hr)
  obtain ⟨i, -, hi⟩ := Finset.exists_mem_notMem_of_card_lt_card hc
  exact ⟨i, fun q hq e => hi (Finset.mem_image.mpr ⟨q, Finset.mem_range.mpr hq, e⟩)⟩

variable {f : Row} (hf : ∀ i, 0 < f i)
include hf

/-- A round takes a lane that no earlier round took: the lanes taken hold zero, and a free one holds more. -/
theorem pick_free (r : Nat) (hr : r < 64) : ∀ q < r, pick f q ≠ pick f r := by
  intro q hq e
  obtain ⟨i, hi⟩ := exists_free f r hr
  have h0 : after f r (pick f r) = 0 := by rw [after_apply, if_pos ⟨q, hq, e⟩]
  have h1 : after f r i ≤ after f r (pick f r) := (le_top _ i).trans_eq (apply_first _).symm
  rw [h0, after_of_free f r i hi] at h1
  exact absurd (hf i) (not_lt.mpr h1)

/-- What a round takes is the score of its lane. -/
theorem top_after (r : Nat) (hr : r < 64) : top (after f r) = f (pick f r) := by
  rw [← apply_first, ← after_of_free f r (pick f r) (pick_free hf r hr)]
  rfl

/-- A lane still free at round `r` does not come before the one taken: its score is no greater, and where the scores are
    equal its position is not before. -/
theorem pick_dom (r : Nat) (hr : r < 64) (p : Fin 64) (hp : ∀ q < r, pick f q ≠ p) :
    f p ≤ f (pick f r) ∧ (f p = f (pick f r) → pick f r ≤ p) := by
  have ht := top_after hf r hr
  have hpf := after_of_free f r p hp
  refine ⟨?_, fun e => ?_⟩
  · rw [← ht, ← hpf]; exact le_top _ p
  · exact first_le _ p (by rw [hpf, e, ht])

omit hf

/-- "The greater score first; between equal scores, the lesser lane first." -/
def before (f : Row) (k k' : Fin 64) : Bool :=
  decide (f k' < f k) || (decide (f k = f k') && decide (k < k'))

theorem strict_before (f : Row) : StrictTotalBefore (before f) :=
  StrictTotalBefore.of_key_then_position (fun a b : EReal => decide (b < a)) f (by simp)
    (fun a b c hab hbc => by
      simp only [decide_eq_true_eq] at hab hbc ⊢
      exact hbc.trans hab)
    (fun a b => by
      simp only [decide_eq_true_eq]
      rcases lt_trichotomy a b with h | h | h
      · exact Or.inr (Or.inr h)
      · exact Or.inr (Or.inl h)
      · exact Or.inl h)

theorem not_before {k p : Fin 64} (h : f p ≤ f k ∧ (f p = f k → k ≤ p)) : before f p k = false := by
  unfold before
  rw [Bool.or_eq_false_iff, Bool.and_eq_false_iff]
  refine ⟨decide_eq_false (not_lt.mpr h.1), ?_⟩
  by_cases e : f p = f k
  · exact Or.inr (decide_eq_false (not_lt.mpr (h.2 e)))
  · exact Or.inl (decide_eq_false e)

/-- Two comparators that agree on every later position against an earlier one sort an ascending list alike: the insertion
    sort only ever asks whether a later position goes before an earlier one. -/
theorem stableSort_congr_ascending {n : Nat} (R S : Fin n → Fin n → Bool) (h : ∀ a b, a < b → R b a = S b a)
    (l : List (Fin n)) (hl : l.Pairwise (· < ·)) : stableSort R l = stableSort S l := by
  induction l with
  | nil => rfl
  | cons a l ih =>
    rw [List.pairwise_cons] at hl
    unfold stableSort
    rw [ih hl.2]
    refine insertBefore_congr R S a _ fun b hb => h a b (hl.1 b ?_)
    exact (perm_stableSort S l).mem_iff.mp hb

theorem sortedFrom_congr_ascending {n : Nat} (R S : Fin n → Fin n → Bool) (h : ∀ a b, a < b → R b a = S b a) :
    sortedFrom R = sortedFrom S := by
  have e : sortPositions n R = sortPositions n S :=
    stableSort_congr_ascending R S h (List.finRange n) (List.pairwise_lt_finRange n)
  funext k
  unfold sortedFrom
  rw [List.get_of_eq e]
  rfl

include hf in
/-- The stable sort of the lanes by decreasing score has, at position `r < 8`, the lane that round `r` takes. -/
theorem sortedFrom_eq_pick (r : Fin 8) :
    sortedFrom (fun k k' => decide (f k' < f k)) (r.castLE (by decide) : Fin 64) = pick f r.val := by
  have e : sortedFrom (fun k k' => decide (f k' < f k)) = sortedFrom (before f) :=
    sortedFrom_congr_ascending _ _ fun a b hab => by
      unfold before
      rw [decide_eq_false (not_lt.mpr hab.le), Bool.and_false, Bool.or_false]
  rw [e]
  have hlt : ∀ r : Fin 8, r.val < 64 := fun r => by omega
  refine (strict_before f).sortedFrom_eq_of_prefix (by decide) (fun r : Fin 8 => pick f r.val) ?_ ?_ ?_ r
  · intro i j hij
    by_contra hne
    rcases lt_or_gt_of_ne (fun e => hne (Fin.ext e) : i.val ≠ j.val) with h | h
    · exact pick_free hf j.val (hlt j) i.val h hij
    · exact pick_free hf i.val (hlt i) j.val h hij.symm
  · intro i j hij
    refine not_before (pick_dom hf i.val (hlt i) _ fun q hq => ?_)
    exact pick_free hf j.val (hlt j) q (hq.trans hij)
  · intro i p hp
    exact not_before (pick_dom hf i.val (hlt i) p fun q hq => hp ⟨q, by omega⟩)

end Cert.Router

end
-- ==== Proof.Rounds.lean ====
/-
  THE ROUNDS ON A BLOCK. The kernel holds 1024 rows of 64 scores and does every round on the whole block: a row maximum, the
  greatest code `63 - lane` among the lanes that hold it, and a select that overwrites that lane with zero. Here each of these
  is read at a row, as Pick.lean's `top`, `first` and `strike` of that row.
-/
module

public import proofs.«01_k».proof.Proof.Gen.KernelIdeal.Skeleton
public import proofs.«01_k».proof.Proof.Pick
public import Idealize.ShloMosaic.Lib.Pointwise

@[expose] public section

noncomputable section

namespace Cert.Router

open Idealize.ShloMosaic Cert.KernelIdeal Cert.KernelIdeal.Gen

/-- The pattern of minus infinity denotes the least extended real. -/
theorem neg_inf : Ideal.ofBits .f32 0xFF800000#32 = ⊥ := by
  unfold Ideal.ofBits Ideal.ieee
  simp

/-- A block of scores. -/
abbrev Block := FVec Ideal S1024x64 .f32

/-- Row `p` of a block. -/
def rowOf (k : Block) (p : Fin 1024) : Row := fun l => k (ix2 p l)

/-- The row maxima of a block, as a column. -/
def vtop (k : Block) : FVec Ideal S1024x1 .f32 :=
  shapeCast S1024x1 (multiReduction .maximumf [1] S1024 k 0xFF800000#32 reduces_S1024x64_S1024 (.inl rfl) rfl) shapeCasts_S1024_S1024x1

/-- The lanes' codes where the row maximum is held, `-1` elsewhere. -/
def codes (k : Block) : IVec S1024x64 32 :=
  select (cmpf .oeq k (broadcastTo S1024x64 (vtop k) broadcasts_S1024x1_S1024x64)) k0_pay5 (broadcast S1024x64 4294967295#32)

/-- The greatest code of each row, as a vector and as a column. -/
def vbest (k : Block) : IVec S1024 32 :=
  multiReductionI .maxsi [1] S1024 (codes k) 2147483648#32 reduces_S1024x64_S1024 rfl
def vcode (k : Block) : IVec S1024x1 32 := shapeCast S1024x1 (vbest k) shapeCasts_S1024_S1024x1

/-- One round on the block. -/
def vstrike (k : Block) : Block :=
  select (andi (cmpf .oeq k (broadcastTo S1024x64 (vtop k) broadcasts_S1024x1_S1024x64))
    (cmpi .eq k0_pay5 (broadcastTo S1024x64 (vcode k) broadcasts_S1024x1_S1024x64)))
    (broadcast S1024x64 (Scalar.ofBits .f32 0x00000000#32)) k

theorem vtop_apply (k : Block) (p : Fin 1024) (u : Fin 1) : vtop k (ix2 p u) = top (rowOf k p) := by
  unfold vtop top rowOf
  pointwise
  rw [neg_inf]

/-- The code of a lane. -/
theorem code_eq (l : Fin 64) : IntOp.subi (63#32) (BitVec.ofNat 32 l.val) = BitVec.ofNat 32 (63 - l.val) := by
  revert l; decide

theorem codes_apply (k : Block) (p : Fin 1024) (l : Fin 64) :
    codes k (ix2 p l) = if rowOf k p l = top (rowOf k p) then BitVec.ofNat 32 (63 - l.val) else 4294967295#32 := by
  unfold codes
  pointwise [k0_pay5]
  rw [vtop_apply, code_eq]
  rfl

/-- The signed maximum of two words, read as integers. -/
theorem toInt_maxsi (x y : BitVec 32) : (IntOp.maxsi x y).toInt = max x.toInt y.toInt := by
  unfold IntOp.maxsi
  by_cases h : y.toInt < x.toInt
  · rw [if_pos (by rw [BitVec.slt_iff_toInt_lt]; exact h), max_eq_left h.le]
  · rw [if_neg (by rw [BitVec.slt_iff_toInt_lt]; exact h), max_eq_right (not_lt.mp h)]

theorem toInt_code (l : Fin 64) : (BitVec.ofNat 32 (63 - l.val)).toInt = 63 - (l.val : ℤ) := by
  revert l; decide

/-- The greatest code among the lanes that hold the row's maximum is the code of the least such lane. -/
theorem fold_codes (f : Row) :
    (Finset.univ.fold IntOp.maxsi 2147483648#32 fun l : Fin 64 =>
      if f l = top f then BitVec.ofNat 32 (63 - l.val) else 4294967295#32) = BitVec.ofNat 32 (63 - (first f).val) := by
  apply BitVec.eq_of_toInt_eq
  rw [toInt_code, ← Finset.fold_hom (op' := max) (fun x y => toInt_maxsi x y)]
  have hlt := (first f).isLt
  apply le_antisymm
  · refine (Finset.fold_max_le _).mpr ⟨?_, fun l _ => ?_⟩
    · rw [show (2147483648#32 : BitVec 32).toInt = -2147483648 by decide]; omega
    · by_cases h : f l = top f
      · rw [if_pos h, toInt_code]
        have := first_le f l h
        rw [Fin.le_def] at this
        omega
      · rw [if_neg h, show (4294967295#32 : BitVec 32).toInt = -1 by decide]; omega
  · refine (Finset.le_fold_max _).mpr (Or.inr ⟨first f, Finset.mem_univ _, ?_⟩)
    rw [if_pos (apply_first f), toInt_code]

theorem vcode_apply (k : Block) (p : Fin 1024) (u : Fin 1) :
    vcode k (ix2 p u) = BitVec.ofNat 32 (63 - (first (rowOf k p)).val) := by
  rw [← fold_codes]
  unfold vcode vbest
  pointwise
  simp only [codes_apply]

theorem code_inj (l l' : Fin 64) : BitVec.ofNat 32 (63 - l.val) = BitVec.ofNat 32 (63 - l'.val) ↔ l = l' := by
  refine ⟨fun h => Fin.ext ?_, fun h => by rw [h]⟩
  have h' := congrArg BitVec.toInt h
  rw [toInt_code, toInt_code] at h'
  omega

theorem vstrike_apply (k : Block) (p : Fin 1024) (l : Fin 64) :
    vstrike k (ix2 p l) = strike (rowOf k p) l := by
  unfold vstrike strike
  pointwise [k0_pay5]
  rw [vtop_apply, vcode_apply, code_eq]
  by_cases h : l = first (rowOf k p)
  · have e : k (ix2 p l) = top (rowOf k p) := by rw [h]; exact apply_first (rowOf k p)
    rw [if_pos h, ← h, e]
    simp [IntOp.andi, IntOp.cmpi, Scalar.select]
  · rw [if_neg h]
    have e : (BitVec.ofNat 32 (63 - l.val) == BitVec.ofNat 32 (63 - (first (rowOf k p)).val)) = false :=
      beq_eq_false_iff_ne.mpr fun e => h ((code_inj _ _).mp e)
    simp [IntOp.andi, IntOp.cmpi, Scalar.select, rowOf, e]

theorem rowOf_vstrike (k : Block) (p : Fin 1024) : rowOf (vstrike k) p = strike (rowOf k p) := by
  funext l
  exact vstrike_apply k p l

/-- The block after `r` rounds. -/
def vafter (k : Block) : Nat → Block
  | 0 => k
  | r + 1 => vstrike (vafter k r)

theorem rowOf_vafter (k : Block) (p : Fin 1024) (r : Nat) : rowOf (vafter k r) p = after (rowOf k p) r := by
  induction r with
  | zero => rfl
  | succ r ih =>
    unfold vafter after
    rw [rowOf_vstrike, ih]

end Cert.Router

end
-- ==== Proof.Body.lean ====
/-
  THE BODY'S VALUES. What one grid point computes from its block of 1024 tokens and the transposed weights: the scores
  (softmax of the logits) and, by eight rounds on the block, the normalised gates and the expert numbers, each read at a
  token and a slot.
-/
module

public import proofs.«01_k».proof.Proof.Rounds

@[expose] public section

noncomputable section

namespace Cert.Router

open Idealize.ShloMosaic Cert.KernelIdeal Cert.KernelIdeal.Gen

/-! ## The rows' mathematics -/

/-- Softmax of a row of logits. -/
def softmax (z : Row) : Row := fun l => Ideal.div (Ideal.exp (z l - top z)) (∑ l' : Fin 64, Ideal.exp (z l' - top z))

/-- The gate of slot `j`: the score taken there over the sum of the eight scores taken. -/
def gate (f : Row) (j : Fin 8) : EReal := Ideal.div (top (after f j.val)) (∑ q : Fin 8, top (after f q.val))

/-! ## The printed payloads are the rounds -/

/-- Where a block holds its row maxima. -/
def held (k : Block) : IVec S1024x64 1 := cmpf .oeq k (broadcastTo S1024x64 (vtop k) broadcasts_S1024x1_S1024x64)

/-- The eight scores taken of each row, one column per slot. -/
def taken (k : Block) : FVec Ideal S1024x8 .f32 :=
  concatenate S1024x8 1 [⟨S1024x1, vtop (vafter k 0)⟩, ⟨S1024x1, vtop (vafter k 1)⟩, ⟨S1024x1, vtop (vafter k 2)⟩,
    ⟨S1024x1, vtop (vafter k 3)⟩, ⟨S1024x1, vtop (vafter k 4)⟩, ⟨S1024x1, vtop (vafter k 5)⟩, ⟨S1024x1, vtop (vafter k 6)⟩,
    ⟨S1024x1, vtop (vafter k 7)⟩] concatenates_S1024x1_S1024x1_S1024x1_S1024x1_S1024x1_S1024x1_S1024x1_S1024x1_S1024x8_d1

/-- The codes of the lanes taken, one column per slot. -/
def takenCodes (k : Block) : IVec S1024x8 32 :=
  concatenate S1024x8 1 [⟨S1024x1, vcode (vafter k 0)⟩, ⟨S1024x1, vcode (vafter k 1)⟩, ⟨S1024x1, vcode (vafter k 2)⟩,
    ⟨S1024x1, vcode (vafter k 3)⟩, ⟨S1024x1, vcode (vafter k 4)⟩, ⟨S1024x1, vcode (vafter k 5)⟩, ⟨S1024x1, vcode (vafter k 6)⟩,
    ⟨S1024x1, vcode (vafter k 7)⟩] concatenates_S1024x1_S1024x1_S1024x1_S1024x1_S1024x1_S1024x1_S1024x1_S1024x1_S1024x8_d1

section Payloads

variable (x : Vec Ideal S1024x4096 .f32) (w : Vec Ideal S4096x64 .f32) (k : Block)
  (a : Block) (b : FVec Ideal S1024x1 .f32) (c : IVec S1024 32) (d : IVec S1024x1 32) (e : IVec S1024x64 1)

theorem pay6 : k0_pay6 x w = vtop (k0_pay4 x w) := rfl
theorem pay7 : k0_pay7 x w = vcode (k0_pay4 x w) := rfl
theorem pay8 : k0_pay8 x w = vstrike (k0_pay4 x w) := rfl
theorem pay9 : k0_pay9 x w = vtop (k0_pay8 x w) := rfl
theorem pay10 : k0_pay10 x w = vbest (k0_pay8 x w) := rfl
theorem pay11 : k0_pay11 (vbest k) = vcode k := rfl
theorem pay12 : k0_pay12 k0_pay5 k (vtop k) (vbest k) = vstrike k := rfl
theorem pay13 : k0_pay13 k0_pay5 a b c = vtop (k0_pay12 k0_pay5 a b c) := rfl
theorem pay14 : k0_pay14 k0_pay5 a b c = vcode (k0_pay12 k0_pay5 a b c) := rfl
theorem pay15 : k0_pay15 k0_pay5 a b c = vstrike (k0_pay12 k0_pay5 a b c) := rfl
theorem pay16 : k0_pay16 k0_pay5 a b c = vtop (k0_pay15 k0_pay5 a b c) := rfl
theorem pay17 : k0_pay17 k0_pay5 a b c = vcode (k0_pay15 k0_pay5 a b c) := rfl
theorem pay18 : k0_pay18 k0_pay5 a b c = vstrike (k0_pay15 k0_pay5 a b c) := rfl
theorem pay19 : k0_pay19 k0_pay5 a b c = vtop (k0_pay18 k0_pay5 a b c) := rfl
theorem pay20 : k0_pay20 k0_pay5 a b c = vcode (k0_pay18 k0_pay5 a b c) := rfl
theorem pay21 : k0_pay21 k0_pay5 a b c = held (k0_pay18 k0_pay5 a b c) := rfl
theorem pay22 : k0_pay22 k0_pay5 k (vcode k) (held k) = vstrike k := rfl
theorem pay23 : k0_pay23 k0_pay5 a d e = vtop (k0_pay22 k0_pay5 a d e) := rfl
theorem pay24 : k0_pay24 k0_pay5 a d e = vcode (k0_pay22 k0_pay5 a d e) := rfl
theorem pay25 : k0_pay25 k0_pay5 a d e = vstrike (k0_pay22 k0_pay5 a d e) := rfl
theorem pay26 : k0_pay26 k0_pay5 a d e = vtop (k0_pay25 k0_pay5 a d e) := rfl
theorem pay27 : k0_pay27 k0_pay5 a d e = vcode (k0_pay25 k0_pay5 a d e) := rfl
theorem pay28 : k0_pay28 k0_pay5 a d e = vstrike (k0_pay25 k0_pay5 a d e) := rfl
theorem pay29 : k0_pay29 k0_pay5 a d e = vtop (k0_pay28 k0_pay5 a d e) := rfl

end Payloads

/-- The gates stored, as a term of the input block and the transposed weights. -/
abbrev storedGates (x : Vec Ideal S1024x4096 .f32) (w : Vec Ideal S4096x64 .f32) : FVec Ideal S8x1024 .f32 :=
  k0_pay2 (k0_pay30 k0_pay5 (k0_pay6 x w) (k0_pay9 x w) (k0_pay13 k0_pay5 (k0_pay8 x w) (k0_pay9 x w) (k0_pay10 x w))
    (k0_pay16 k0_pay5 (k0_pay8 x w) (k0_pay9 x w) (k0_pay10 x w)) (k0_pay18 k0_pay5 (k0_pay8 x w) (k0_pay9 x w) (k0_pay10 x w))
    (k0_pay19 k0_pay5 (k0_pay8 x w) (k0_pay9 x w) (k0_pay10 x w)) (k0_pay20 k0_pay5 (k0_pay8 x w) (k0_pay9 x w) (k0_pay10 x w))
    (k0_pay21 k0_pay5 (k0_pay8 x w) (k0_pay9 x w) (k0_pay10 x w)))

/-- The expert numbers stored, as a term of the input block and the transposed weights. -/
abbrev storedExperts (x : Vec Ideal S1024x4096 .f32) (w : Vec Ideal S4096x64 .f32) : IVec S8x1024 32 :=
  k0_pay1 (k0_pay31 k0_pay5 (k0_pay7 x w) (k0_pay11 (k0_pay10 x w)) (k0_pay14 k0_pay5 (k0_pay8 x w) (k0_pay9 x w) (k0_pay10 x w))
    (k0_pay17 k0_pay5 (k0_pay8 x w) (k0_pay9 x w) (k0_pay10 x w)) (k0_pay18 k0_pay5 (k0_pay8 x w) (k0_pay9 x w) (k0_pay10 x w))
    (k0_pay20 k0_pay5 (k0_pay8 x w) (k0_pay9 x w) (k0_pay10 x w)) (k0_pay21 k0_pay5 (k0_pay8 x w) (k0_pay9 x w) (k0_pay10 x w))) 63#32

/-- The gates stored are the eight scores taken, transposed and normalised. -/
theorem storedGates_eq (x : Vec Ideal S1024x4096 .f32) (w : Vec Ideal S4096x64 .f32) :
    storedGates x w = k0_pay2 (transpose S8x1024 [1, 0] (taken (k0_pay4 x w)) transposes_S1024x8_p1_0_S8x1024) := by
  unfold storedGates k0_pay30
  simp only [pay6, pay9, pay10, pay8, pay13, pay16, pay18, pay19, pay20, pay21, pay12, pay15, pay22, pay23, pay25, pay26, pay28, pay29]
  rfl

/-- The expert numbers stored are `63` less the codes taken, transposed. -/
theorem storedExperts_eq (x : Vec Ideal S1024x4096 .f32) (w : Vec Ideal S4096x64 .f32) :
    storedExperts x w = k0_pay1 (transpose S8x1024 [1, 0] (takenCodes (k0_pay4 x w)) transposes_S1024x8_p1_0_S8x1024) 63#32 := by
  unfold storedExperts k0_pay31
  simp only [pay7, pay9, pay10, pay11, pay8, pay14, pay17, pay18, pay20, pay21, pay12, pay15, pay22, pay24, pay25, pay27, pay28, pay29]
  rfl

/-! ## The stores at a token and a slot -/

theorem taken_apply (k : Block) (p : Fin 1024) (j : Fin 8) : taken k (ix2 p j) = top (after (rowOf k p) j.val) := by
  unfold taken
  fin_cases j <;> (pointwise; rw [vtop_apply, rowOf_vafter])

theorem takenCodes_apply (k : Block) (p : Fin 1024) (j : Fin 8) :
    takenCodes k (ix2 p j) = BitVec.ofNat 32 (63 - (pick (rowOf k p) j.val).val) := by
  unfold takenCodes pick
  fin_cases j <;> (pointwise; rw [vcode_apply, rowOf_vafter])

theorem storedGates_apply (x : Vec Ideal S1024x4096 .f32) (w : Vec Ideal S4096x64 .f32) (j : Fin 8) (p : Fin 1024) :
    storedGates x w (ix2 j p) = gate (rowOf (k0_pay4 x w) p) j := by
  rw [storedGates_eq]
  unfold gate
  pointwise [k0_pay2]
  simp only [taken_apply]

theorem code_back (l : Fin 64) : IntOp.subi (63#32) (BitVec.ofNat 32 (63 - l.val)) = BitVec.ofNat 32 l.val := by
  revert l; decide

theorem storedExperts_apply (x : Vec Ideal S1024x4096 .f32) (w : Vec Ideal S4096x64 .f32) (j : Fin 8) (p : Fin 1024) :
    storedExperts x w (ix2 j p) = BitVec.ofNat 32 (pick (rowOf (k0_pay4 x w) p) j.val).val := by
  rw [storedExperts_eq]
  pointwise [k0_pay1]
  rw [takenCodes_apply, code_back]

/-- The scores of a token: softmax of its logits, each logit the sum of products of its 4096 features with an expert's. -/
theorem scores_apply (x : Vec Ideal S1024x4096 .f32) (w : Vec Ideal S4096x64 .f32) (p : Fin 1024) :
    rowOf (k0_pay4 x w) p = softmax fun l => ∑ d : Fin 4096, x (ix2 p d) * w (ix2 d l) := by
  funext l
  unfold rowOf softmax top
  pointwise [k0_pay4]
  rw [neg_inf]

end Cert.Router

end
-- ==== Proof.Grid.lean ====
/-
  THE GRID. What the sixteen points leave in the two output arrays: point `t` writes the gates and expert numbers of
  tokens `1024 t … 1024 t + 1023` as columns, from the transposed weights the first point put in the scratch.
-/
module

public import proofs.«01_k».proof.Proof.Body
public import proofs.«01_k».proof.Proof.Gen.KernelIdeal.Frame
public import Idealize.ShloMosaic.Lib.Pipeline.Value
public import Idealize.ShloMosaic.Lib.StableHlo.Run
public import Idealize.ShloMosaic.Lib.Tactic

@[expose] public section

noncomputable section

namespace Cert.Router

open Idealize.ShloMosaic Idealize.ShloMosaic.TcCoe Idealize.SL.Sem
open Cert.KernelIdeal Cert.KernelIdeal.Gen

/-! ## One point's stores -/

theorem origin2 : (![0, 0] : Fin 2 → Nat) = fun _ => 0 := by
  funext a; fin_cases a <;> rfl

section Stores

variable (c : Dev nD) (i : grid0.Coords)
  (a1 : Memref sig .tc .vmem S1024x4096 .f32) (h1 : a1.IsWhole) (a2 : Memref sig .tc .vmem S64x4096 .f32) (h2 : a2.IsWhole)
  (a3 : Memref sig .tc .vmem S8x1024 .f32) (h3 : a3.IsWhole) (a4 : Memref sig .tc .vmem S8x1024 .i32) (h4 : a4.IsWhole)
  (a5 : Memref sig .tc .vmem S4096x64 .f32) (h5 : a5.IsWhole)
  (x : Vec Ideal S1024x4096 .f32) (w : Vec Ideal S64x4096 .f32) (wt : Vec Ideal S4096x64 .f32)

/-- The first point puts the transposed weights in the scratch … -/
theorem first_scratch (hc : cond0_0 i) : sout0_A_0 c i a1 h1 a2 h2 a3 h3 a4 h4 a5 h5 hc x w = k0_pay3 w := by
  unfold sout0_A_0
  rw [View.read_writes_eq_canon _ _ _ (scover0_A_0 c i a1 h1 a2 h2 a3 h3 a4 h4 a5 h5 hc x w)]
  unfold kernelRun0_A
  dsimp only
  sl_unfold_words
  rw [View.canon_unit_zero origin2]
  simp only [View.readAt_eq_ld, h2.read_unread, View.ld_unit_zero (S := S64x4096) origin2]

/-- … and computes its gates from them … -/
theorem first_gates (hc : cond0_0 i) :
    out0_A_2 c i a1 h1 a2 h2 a3 h3 a4 h4 a5 h5 hc x w = storedGates x (k0_pay3 w) := by
  unfold out0_A_2
  rw [View.read_writes_eq_canon _ _ _ (cover0_A_2 c i a1 h1 a2 h2 a3 h3 a4 h4 a5 h5 hc x w)]
  unfold kernelRun0_A
  dsimp only
  sl_unfold_words
  rw [View.canon_unit_zero origin2]
  simp only [View.readAt_eq_ld, h1.read_unread, h2.read_unread, View.ld_unit_zero (S := S1024x4096) origin2,
    View.ld_unit_zero (S := S64x4096) origin2, View.readCov_unit_zero (S := S4096x64) _ origin2]

/-- … and its expert numbers. -/
theorem first_experts (hc : cond0_0 i) :
    out0_A_3 c i a1 h1 a2 h2 a3 h3 a4 h4 a5 h5 hc x w = storedExperts x (k0_pay3 w) := by
  unfold out0_A_3
  rw [View.read_writes_eq_canon _ _ _ (cover0_A_3 c i a1 h1 a2 h2 a3 h3 a4 h4 a5 h5 hc x w)]
  unfold kernelRun0_A
  dsimp only
  sl_unfold_words
  rw [View.canon_unit_zero origin2]
  simp only [View.readAt_eq_ld, h1.read_unread, h2.read_unread, View.ld_unit_zero (S := S1024x4096) origin2,
    View.ld_unit_zero (S := S64x4096) origin2, View.readCov_unit_zero (S := S4096x64) _ origin2]

/-- A later point computes its gates from what the scratch holds … -/
theorem later_gates (hc : ¬cond0_0 i) :
    out0_B_2 c i a1 h1 a2 h2 a3 h3 a4 h4 a5 h5 hc x w wt = storedGates x wt := by
  unfold out0_B_2
  rw [View.read_writes_eq_canon _ _ _ (cover0_B_2 c i a1 h1 a2 h2 a3 h3 a4 h4 a5 h5 hc x w wt)]
  unfold kernelRun0_B
  dsimp only
  sl_unfold_words
  rw [View.canon_unit_zero origin2]
  simp only [View.readAt_eq_ld, h1.read_unread, h5.read_unread, View.ld_unit_zero (S := S1024x4096) origin2,
    View.ld_unit_zero (S := S4096x64) origin2]

/-- … and its expert numbers. -/
theorem later_experts (hc : ¬cond0_0 i) :
    out0_B_3 c i a1 h1 a2 h2 a3 h3 a4 h4 a5 h5 hc x w wt = storedExperts x wt := by
  unfold out0_B_3
  rw [View.read_writes_eq_canon _ _ _ (cover0_B_3 c i a1 h1 a2 h2 a3 h3 a4 h4 a5 h5 hc x w wt)]
  unfold kernelRun0_B
  dsimp only
  sl_unfold_words
  rw [View.canon_unit_zero origin2]
  simp only [View.readAt_eq_ld, h1.read_unread, h5.read_unread, View.ld_unit_zero (S := S1024x4096) origin2,
    View.ld_unit_zero (S := S4096x64) origin2]

end Stores

/-! ## The blocks a point reads -/

variable (m : (ℓ : Loc nD τ sig) → Buf (Elt Ideal) ℓ) (c : Dev nD)

/-- The weights as launched, and the tokens as launched. -/
abbrev weights : Vec Ideal S64x4096 .f32 := m ((c : Thread nD τ).loc main_arg1)
abbrev tokens : Vec Ideal S4x4096x4096 .f32 := m ((c : Thread nD τ).loc main_arg0)

/-- The tokens as the grid sees them: the host's reshape to 16384 rows. -/
def rows : Vec Ideal S16384x4096 .f32 := shapeCast S16384x4096 (tokens m c) shapeCasts_S4x4096x4096_S16384x4096

theorem V_rows : V m c main_call0_v0 = rows m c := rfl

theorem index_rows : ∀ t : Fin cfg0.N, win0_0.index t 0 = t.val ∧ win0_0.index t 1 = 0 :=
  (by decide +kernel : ∀ t : Fin grid0.N, win0_0.index t 0 = t.val ∧ win0_0.index t 1 = 0)
theorem index_weights : ∀ t : Fin cfg0.N, win0_1.index t 0 = 0 ∧ win0_1.index t 1 = 0 :=
  (by decide +kernel : ∀ t : Fin grid0.N, win0_1.index t 0 = 0 ∧ win0_1.index t 1 = 0)
theorem index_gates : ∀ t : Fin cfg0.N, win0_2.index t 0 = 0 ∧ win0_2.index t 1 = t.val :=
  (by decide +kernel : ∀ t : Fin grid0.N, win0_2.index t 0 = 0 ∧ win0_2.index t 1 = t.val)
theorem index_experts : ∀ t : Fin cfg0.N, win0_3.index t 0 = 0 ∧ win0_3.index t 1 = t.val :=
  (by decide +kernel : ∀ t : Fin grid0.N, win0_3.index t 0 = 0 ∧ win0_3.index t 1 = t.val)

/-- Every point reads the whole weight array. -/
theorem block_weights (t : Fin cfg0.N) : (iblk m c 1 t : Vec Ideal S64x4096 .f32) = weights m c := by
  funext j
  unfold iblk
  rw [View.read_apply]
  show V m c main_arg1 _ = m (c.tc.loc main_arg1) _
  rw [V_main_arg1]
  congr 1
  funext a
  apply Fin.ext
  match a with
  | ⟨0, _⟩ => show win0_1.index t 0 * 64 + 1 * (j 0).val = (j 0).val; rw [(index_weights t).1]; omega
  | ⟨1, _⟩ => show win0_1.index t 1 * 4096 + 1 * (j 1).val = (j 1).val; rw [(index_weights t).2]; omega

/-- The row of the reshaped tokens that column `p` of point `t` reads. -/
def rowAt (t : Fin cfg0.N) (p : Fin 1024) : Fin 16384 :=
  ⟨1024 * t.val + p.val, by have := t.isLt; have hN : cfg0.N = 16 := N_0; omega⟩

theorem block_rows (t : Fin cfg0.N) (p : Fin 1024) (d : Fin 4096) :
    (iblk m c 0 t : Vec Ideal S1024x4096 .f32) (ix2 p d)
      = rows m c (ix2 (rowAt t p) d) := by
  unfold iblk
  rw [View.read_apply]
  show V m c main_call0_v0 _ = rows m c _
  rw [V_rows]
  congr 1
  funext a
  apply Fin.ext
  match a with
  | ⟨0, _⟩ => show win0_0.index t 0 * 1024 + 1 * p.val = 1024 * t.val + p.val; rw [(index_rows t).1]; omega
  | ⟨1, _⟩ => show win0_0.index t 1 * 4096 + 1 * d.val = d.val; rw [(index_rows t).2]; omega

/-! ## Point by point -/

/-- After every point the scratch holds the transposed weights. -/
theorem carried : ∀ (n : ℕ) (hn : n < cfg0.N), (outsAt0 m c n hn).2.2 = k0_pay3 (weights m c)
  | 0, hn => by
    rw [show outsAt0 m c 0 hn = _ from outsAt0_A m c ⟨0, hn⟩ rfl]
    dsimp only
    rw [first_scratch, block_weights]
  | n + 1, hn => by
    have hN : cfg0.N = 16 := N_0
    have hB : ¬(⟨n + 1, hn⟩ : Fin cfg0.N).val % 16 = 0 := by dsimp only; omega
    have e := congrArg (fun o => o.2.2) (outsAt0_B m c ⟨n + 1, hn⟩ hB)
    dsimp only at e
    unfold sout0_B_0 at e
    exact e.trans (carried n (Nat.lt_of_succ_lt hn))

/-- What point `t` leaves of gates. -/
theorem left_gates (t : Fin cfg0.N) :
    (outsAt0 m c t.val t.isLt).1 = storedGates (iblk m c 0 t) (k0_pay3 (weights m c)) := by
  by_cases h0 : t.val % 16 = 0
  · rw [outsAt0_A m c t h0]
    dsimp only
    rw [first_gates, block_weights]
  · rw [outsAt0_B m c t h0]
    dsimp only
    rw [later_gates, carried]

/-- What point `t` leaves of expert numbers. -/
theorem left_experts (t : Fin cfg0.N) :
    (outsAt0 m c t.val t.isLt).2.1 = storedExperts (iblk m c 0 t) (k0_pay3 (weights m c)) := by
  by_cases h0 : t.val % 16 = 0
  · rw [outsAt0_A m c t h0]
    dsimp only
    rw [first_experts, block_weights]
  · rw [outsAt0_B m c t h0]
    dsimp only
    rw [later_experts, carried]

/-- The scores of row `n` of the reshaped tokens. -/
def scoresOf (n : Fin 16384) : Row :=
  softmax fun l => ∑ d : Fin 4096, rows m c (ix2 n d) * weights m c (ix2 l d)

/-- A point's scores are the scores of the rows it reads. -/
theorem point_scores (t : Fin cfg0.N) (p : Fin 1024) :
    rowOf (k0_pay4 (iblk m c 0 t) (k0_pay3 (weights m c))) p = scoresOf m c (rowAt t p) := by
  rw [scores_apply]
  unfold scoresOf
  refine congrArg softmax (funext fun l => Finset.sum_congr rfl fun d _ => ?_)
  rw [block_rows]
  refine congrArg (rows m c (ix2 (rowAt t p) d) * ·) ?_
  pointwise [k0_pay3]

/-! ## The arrays after the grid -/

/-- The gates array: slot `j` of token row `n` at `(j, n)`. -/
def gatesArr : Vec Ideal S8x16384 .f32 := fun i => gate (scoresOf m c (i 1)) (i 0)
/-- The experts array. -/
def expertsArr : IVec S8x16384 32 := fun i => BitVec.ofNat 32 (pick (scoresOf m c (i 1)) (i 0).val).val

theorem written_gates (t : Fin cfg0.N) (hf : (cfg0.win 2).flush t = true) :
    (dats m 0 c).flushed 2 t = ((cfg0.win 2).blk t).view.read (Elt Ideal) (gatesArr m c) := by
  show (cfg0.win 2).cut (grid0.coords t) ((dats m 0 c).after 2 t) = _
  rw [after0_2, left_gates]
  funext j
  rw [View.read_apply]
  have e : ∀ j : S8x1024.Idx, storedGates (iblk m c 0 t) (k0_pay3 (weights m c)) j = gate (scoresOf m c (rowAt t (j 1))) (j 0) := by
    intro j
    obtain ⟨r, p, rfl⟩ : ∃ (r : Fin 8) (p : Fin 1024), j = ix2 r p := ⟨_, _, eq_ix2 j⟩
    rw [storedGates_apply, point_scores]
    rfl
  refine (e j).trans ?_
  refine congrArg₂ (fun (n : Fin 16384) (r : Fin 8) => gate (scoresOf m c n) r) ?_ ?_
  · apply Fin.ext
    show 1024 * t.val + (j 1).val = win0_2.index t 1 * 1024 + 1 * (j 1).val
    rw [(index_gates t).2]; omega
  · apply Fin.ext
    show (j 0).val = win0_2.index t 0 * 8 + 1 * (j 0).val
    rw [(index_gates t).1]; omega

theorem written_experts (t : Fin cfg0.N) (hf : (cfg0.win 3).flush t = true) :
    (dats m 0 c).flushed 3 t = ((cfg0.win 3).blk t).view.read (Elt Ideal) (expertsArr m c) := by
  show (cfg0.win 3).cut (grid0.coords t) ((dats m 0 c).after 3 t) = _
  rw [after0_3, left_experts]
  funext j
  rw [View.read_apply]
  have e : ∀ j : S8x1024.Idx, storedExperts (iblk m c 0 t) (k0_pay3 (weights m c)) j
      = BitVec.ofNat 32 (pick (scoresOf m c (rowAt t (j 1))) (j 0).val).val := by
    intro j
    obtain ⟨r, p, rfl⟩ : ∃ (r : Fin 8) (p : Fin 1024), j = ix2 r p := ⟨_, _, eq_ix2 j⟩
    rw [storedExperts_apply, point_scores]
    rfl
  refine (e j).trans ?_
  refine congrArg₂ (fun (n : Fin 16384) (r : Fin 8) => BitVec.ofNat 32 (pick (scoresOf m c n) r.val).val) ?_ ?_
  · apply Fin.ext
    show 1024 * t.val + (j 1).val = win0_3.index t 1 * 1024 + 1 * (j 1).val
    rw [(index_experts t).2]; omega
  · apply Fin.ext
    show (j 0).val = win0_3.index t 0 * 8 + 1 * (j 0).val
    rw [(index_experts t).1]; omega

/-- The point that writes column `n`. -/
def pointOf (n : Fin 16384) : Fin cfg0.N := ⟨n.val / 1024, by rw [show cfg0.N = 16 from N_0]; omega⟩

theorem flush_gates : ∀ t : Fin cfg0.N, (cfg0.win 2).flush t = true :=
  (by decide +kernel : ∀ t : Fin grid0.N, (cfg0.win 2).flush t = true)
theorem flush_experts : ∀ t : Fin cfg0.N, (cfg0.win 3).flush t = true :=
  (by decide +kernel : ∀ t : Fin grid0.N, (cfg0.win 3).flush t = true)

theorem size_gates : ∀ t : Fin cfg0.N, win0_2.xsize (grid0.coords t) 0 = 8 ∧ win0_2.xsize (grid0.coords t) 1 = 1024 :=
  (by decide +kernel : ∀ t : Fin grid0.N, win0_2.xsize (grid0.coords t) 0 = 8 ∧ win0_2.xsize (grid0.coords t) 1 = 1024)
theorem size_experts : ∀ t : Fin cfg0.N, win0_3.xsize (grid0.coords t) 0 = 8 ∧ win0_3.xsize (grid0.coords t) 1 = 1024 :=
  (by decide +kernel : ∀ t : Fin grid0.N, win0_3.xsize (grid0.coords t) 0 = 8 ∧ win0_3.xsize (grid0.coords t) 1 = 1024)

/-- The gates array after the grid. -/
theorem final_gates : (dats m 0 c).arrAt 2 cfg0.N = gatesArr m c :=
  (dats m 0 c).arrAt_eq_of_cover 2 (gatesArr m c) (written_gates m c) fun i =>
    ⟨pointOf (i 1), flush_gates _, by
      have b0 : (i 0).val < 8 := (i 0).isLt
      show i ∈ ((View.whole main_call0_v1_0).slice (win0_2.rect (pointOf (i 1)))).set
      rw [View.set_slice_whole, Rect.mem_set_unit]
      intro a
      match a with
      | ⟨0, _⟩ =>
        show win0_2.index (pointOf (i 1)) 0 * 8 ≤ (i 0).val
          ∧ (i 0).val < win0_2.index (pointOf (i 1)) 0 * 8 + win0_2.xsize (grid0.coords (pointOf (i 1))) 0
        rw [(index_gates _).1, (size_gates _).1]; omega
      | ⟨1, _⟩ =>
        show win0_2.index (pointOf (i 1)) 1 * 1024 ≤ (i 1).val
          ∧ (i 1).val < win0_2.index (pointOf (i 1)) 1 * 1024 + win0_2.xsize (grid0.coords (pointOf (i 1))) 1
        rw [(index_gates _).2, (size_gates _).2]
        show (i 1).val / 1024 * 1024 ≤ (i 1).val ∧ (i 1).val < (i 1).val / 1024 * 1024 + 1024
        omega⟩

/-- The experts array after the grid. -/
theorem final_experts : (dats m 0 c).arrAt 3 cfg0.N = expertsArr m c :=
  (dats m 0 c).arrAt_eq_of_cover 3 (expertsArr m c) (written_experts m c) fun i =>
    ⟨pointOf (i 1), flush_experts _, by
      have b0 : (i 0).val < 8 := (i 0).isLt
      show i ∈ ((View.whole main_call0_v1_1).slice (win0_3.rect (pointOf (i 1)))).set
      rw [View.set_slice_whole, Rect.mem_set_unit]
      intro a
      match a with
      | ⟨0, _⟩ =>
        show win0_3.index (pointOf (i 1)) 0 * 8 ≤ (i 0).val
          ∧ (i 0).val < win0_3.index (pointOf (i 1)) 0 * 8 + win0_3.xsize (grid0.coords (pointOf (i 1))) 0
        rw [(index_experts _).1, (size_experts _).1]; omega
      | ⟨1, _⟩ =>
        show win0_3.index (pointOf (i 1)) 1 * 1024 ≤ (i 1).val
          ∧ (i 1).val < win0_3.index (pointOf (i 1)) 1 * 1024 + win0_3.xsize (grid0.coords (pointOf (i 1))) 1
        rw [(index_experts _).2, (size_experts _).2]
        show (i 1).val / 1024 * 1024 ≤ (i 1).val ∧ (i 1).val < (i 1).val / 1024 * 1024 + 1024
        omega⟩

end Cert.Router

end
-- ==== Proof.Out.lean ====
/-
  THE RESULTS. What the kernel's two results hold, token by token: the gates and the numbers of the experts taken from
  softmax of the token's logits.
-/
module

public import proofs.«01_k».proof.Proof.Grid
public import Idealize.ShloMosaic.Lib.Claim

@[expose] public section

noncomputable section

namespace Cert.Router

open Idealize.ShloMosaic Idealize.ShloMosaic.TcCoe Idealize.SL.Sem
open Cert.KernelIdeal Cert.KernelIdeal.Gen

/-- The scores of token `t` of batch row `b`. -/
def score (x : Vec Ideal S4x4096x4096 .f32) (w : Vec Ideal S64x4096 .f32) (b : Fin 4) (t : Fin 4096) : Row :=
  softmax fun l => ∑ d : Fin 4096, x (ix3 b t d) * w (ix2 l d)

/-- The gates: slot `r` of each token. -/
def gates (x : Vec Ideal S4x4096x4096 .f32) (w : Vec Ideal S64x4096 .f32) : Vec Ideal S4x4096x8 .f32 :=
  fun i => gate (score x w (i 0) (i 1)) (i 2)
/-- The experts: slot `r` of each token. -/
def experts (x : Vec Ideal S4x4096x4096 .f32) (w : Vec Ideal S64x4096 .f32) : IVec S4x4096x8 32 :=
  fun i => BitVec.ofNat 32 (pick (score x w (i 0) (i 1)) (i 2).val).val

variable (m : (ℓ : Loc nD τ sig) → Buf (Elt Ideal) ℓ) (ρ : Dev nD → PrngReg) (c : Dev nD)

/-- The row of the reshaped tokens that holds token `t` of batch row `b`. -/
def flat (b : Fin 4) (t : Fin 4096) : Fin 16384 := ⟨4096 * b.val + t.val, by omega⟩

theorem rows_flat (b : Fin 4) (t : Fin 4096) (d : Fin 4096) : rows m c (ix2 (flat b t) d) = tokens m c (ix3 b t d) := by
  pointwise [rows, flat]

theorem scoresOf_flat (b : Fin 4) (t : Fin 4096) : scoresOf m c (flat b t) = score (tokens m c) (weights m c) b t := by
  unfold scoresOf score
  simp only [rows_flat]

/-- The host's transpose and reshape of the gates array. -/
theorem gates_apply : shapeCast S4x4096x8 (transpose S16384x8 [1, 0] (gatesArr m c) transposes_S8x16384_S16384x8_1_0)
    shapeCasts_S16384x8_S4x4096x8 = gates (tokens m c) (weights m c) := by
  funext j
  obtain ⟨b, t, r, rfl⟩ : ∃ (b : Fin 4) (t : Fin 4096) (r : Fin 8), j = ix3 b t r := ⟨_, _, _, eq_ix3 j⟩
  pointwise
  show gate (scoresOf m c _) r = gate (score _ _ b t) r
  rw [← scoresOf_flat]
  refine congrArg (fun n => gate (scoresOf m c n) r) (Fin.ext ?_)
  show b.val * 4096 + t.val = 4096 * b.val + t.val
  omega

/-- The host's transpose and reshape of the experts array. -/
theorem experts_apply : shapeCast S4x4096x8 (transpose S16384x8 [1, 0] (expertsArr m c) transposes_S8x16384_S16384x8_1_0)
    shapeCasts_S16384x8_S4x4096x8 = experts (tokens m c) (weights m c) := by
  funext j
  obtain ⟨b, t, r, rfl⟩ : ∃ (b : Fin 4) (t : Fin 4096) (r : Fin 8), j = ix3 b t r := ⟨_, _, _, eq_ix3 j⟩
  pointwise
  show BitVec.ofNat 32 (pick (scoresOf m c _) r.val).val = BitVec.ofNat 32 (pick (score _ _ b t) r.val).val
  rw [← scoresOf_flat]
  refine congrArg (fun n => BitVec.ofNat 32 (pick (scoresOf m c n) r.val).val) (Fin.ext ?_)
  show b.val * 4096 + t.val = 4096 * b.val + t.val
  omega

/-- The lines after the grid leave the gates in the first result. -/
theorem tail_gates : Pipeline.afterTail₀ cfgs (dats m) 0 (V0 m) [hostOps1] c main_v0_0 = gates (tokens m c) (weights m c) := by
  have e : (Pipeline.withArrays spec0 c (V0 m c) fun w => (dats m 0 c).arrAt w cfg0.N) (Proc.devRef .tc main_call0_v1_0) = gatesArr m c :=
    (Pipeline.withArrays_arr spec0 (by decide) c (V0 m c) _ 2).trans (final_gates m c)
  rw [← gates_apply, ← e]
  unfold Pipeline.afterTail₀
  show StableHlo.after hostOps1 (Pipeline.withArrays spec0 c (V0 m c) fun w => (dats m 0 c).arrAt w cfg0.N) _ = _
  generalize (Pipeline.withArrays spec0 c (V0 m c) fun w => (dats m 0 c).arrAt w cfg0.N) = U
  unfold hostOps1
  after_results
  rfl

/-- The lines after the grid leave the experts in the second result. -/
theorem tail_experts : Pipeline.afterTail₀ cfgs (dats m) 0 (V0 m) [hostOps1] c main_v0_1 = experts (tokens m c) (weights m c) := by
  have e : (Pipeline.withArrays spec0 c (V0 m c) fun w => (dats m 0 c).arrAt w cfg0.N) (Proc.devRef .tc main_call0_v1_1) = expertsArr m c :=
    (Pipeline.withArrays_arr spec0 (by decide) c (V0 m c) _ 3).trans (final_experts m c)
  rw [← experts_apply, ← e]
  unfold Pipeline.afterTail₀
  show StableHlo.after hostOps1 (Pipeline.withArrays spec0 c (V0 m c) fun w => (dats m 0 c).arrAt w cfg0.N) _ = _
  generalize (Pipeline.withArrays spec0 c (V0 m c) fun w => (dats m 0 c).arrAt w cfg0.N) = U
  unfold hostOps1
  after_results
  rfl

/-- The kernel's run: both results at every token, the arguments unchanged. -/
theorem kernel_run : θ_run defs (onTc (τ := τ) (main (F := Ideal))) ⟨m, fun _ => 0, ρ⟩ fun r => ∀ c : Dev nD,
      r.2.mem ((c.tc : Thread nD τ).loc main_v0_0) = gates (tokens m c) (weights m c)
      ∧ r.2.mem ((c.tc : Thread nD τ).loc main_v0_1) = experts (tokens m c) (weights m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from run_main m ρ
  · exact tail_gates m c
  · exact tail_experts m c
  · exact W_main_arg0 m (dats m) c

end Cert.Router

end
-- ==== Proof.Ref.lean ====
/-
  THE REFERENCE. What the reference's two results hold, token by token: softmax of the logits, the first eight of the
  stable descending sort, and their normalisation.
-/
module

public import proofs.«01_k».proof.Proof.Out
public import proofs.«01_k».proof.Proof.Gen.ReferenceIdeal.Run

@[expose] public section

noncomputable section

namespace Cert.Router

open Idealize.ShloMosaic Idealize.ShloMosaic.TcCoe Idealize.SL.Sem
open Cert.ReferenceIdeal Cert.ReferenceIdeal.Gen

variable (x : FVec Ideal S4x4096x4096 .f32) (w : FVec Ideal S64x4096 .f32)

/-- The reference's logits, their exponentials, and the scores. -/
def refLogits : FVec Ideal S4x4096x64 .f32 :=
  Host.dotGeneral dot_S4x4096x4096_S4096x64_S4x4096x64_2_0_01_1_n_n none x (transpose S4096x64 [1, 0] w transposes_S64x4096_S4096x64_1_0)
def refExps : FVec Ideal S4x4096x64 .f32 :=
  Host.exp (subf (refLogits x w) (broadcastInDim S4x4096x64 ![0, 1, 2] bcast_S4x4096x1_S4x4096x64_0_1_2 (broadcastInDim S4x4096x1 ![0, 1] bcast_S4x4096_S4x4096x1_0_1 (maximumf (broadcastInDim S4x4096 ![] bcast_S_S4x4096 (constant S_ .f32 0xFF800000#32)) (Host.reduce FloatOps.maximumf (refLogits x w) (constant S_ .f32 0xFF800000#32) reducesTo_S4x4096x64_S4x4096_d2 h_S_)))))
def refScores : FVec Ideal S4x4096x64 .f32 :=
  Host.divf (refExps x w) (broadcastInDim S4x4096x64 ![0, 1, 2] bcast_S4x4096x1_S4x4096x64_0_1_2 (broadcastInDim S4x4096x1 ![0, 1] bcast_S4x4096_S4x4096x1_0_1 (Host.reduceAdd (refExps x w) (constant S_ .f32 0x00000000#32) reducesTo_S4x4096x64_S4x4096_d2 h_S_)))

theorem refLogits_apply (b : Fin 4) (t : Fin 4096) (l : Fin 64) :
    refLogits x w (ix3 b t l) = ∑ d : Fin 4096, x (ix3 b t d) * w (ix2 l d) := by
  pointwise [refLogits]

theorem refExps_apply (b : Fin 4) (t : Fin 4096) (l : Fin 64) :
    refExps x w (ix3 b t l) = Ideal.exp (refLogits x w (ix3 b t l) - top fun l' => refLogits x w (ix3 b t l')) := by
  unfold top refExps
  generalize refLogits x w = z
  pointwise
  rw [neg_inf, max_eq_right bot_le]

theorem refScores_apply (b : Fin 4) (t : Fin 4096) (l : Fin 64) :
    refScores x w (ix3 b t l) = score x w b t l := by
  unfold score softmax
  simp only [← refLogits_apply, ← refExps_apply]
  unfold refScores
  generalize refExps x w = z
  pointwise

/-- The order the reference sorts by. -/
theorem gt_eq (a b : EReal) : ((FloatOps.cmpfTotal (F := Ideal) (φ := .f32) .gt a b) == 1#1) = decide (b < a) := by
  show (BitVec.ofBool (decide (b < a)) == 1#1) = decide (b < a)
  cases decide (b < a) <;> rfl

/-- Token `t`'s lanes of batch row `b`. -/
def lanes (s : FVec Ideal S4x4096x64 .f32) (b : Fin 4) (t : Fin 4096) : Row := fun l => s (ix3 b t l)

theorem last_axis : 2 < S4x4096x64.rank := by decide

theorem along_lane (b : Fin 4) (t : Fin 4096) (l k : Fin 64) :
    (ix3 b t l : S4x4096x64.Idx).along ⟨2, last_axis⟩ k = ix3 b t k := by
  funext a
  fin_cases a <;> rfl

/-- The stable descending sort of a token's lanes, its values and what it carries. -/
theorem sort_lanes (s : FVec Ideal S4x4096x64 .f32) (y : IVec S4x4096x64 32) (b : Fin 4) (t : Fin 4096) (l : Fin 64) :
    (Host.sort2 S4x4096x64 2 (fun p q => FloatOps.cmpfTotal (F := Ideal) (φ := .f32) .gt p.1 q.1) s y).1 (ix3 b t l)
        = s (ix3 b t (sortedFrom (fun k k' => decide (lanes s b t k' < lanes s b t k)) l))
      ∧ (Host.sort2 S4x4096x64 2 (fun p q => FloatOps.cmpfTotal (F := Ideal) (φ := .f32) .gt p.1 q.1) s y).2 (ix3 b t l)
        = y (ix3 b t (sortedFrom (fun k k' => decide (lanes s b t k' < lanes s b t k)) l)) := by
  have e : (fun k k' : Fin 64 => (FloatOps.cmpfTotal (F := Ideal) (φ := .f32) .gt
        (s ((ix3 b t l : S4x4096x64.Idx).along ⟨2, last_axis⟩ k)) (s ((ix3 b t l : S4x4096x64.Idx).along ⟨2, last_axis⟩ k'))) == 1#1)
      = fun k k' => decide (lanes s b t k' < lanes s b t k) := by
    funext k k'
    rw [gt_eq, along_lane, along_lane]
    rfl
  unfold Host.sort2
  rw [dif_pos last_axis]
  refine ⟨?_, ?_⟩
  · refine Eq.trans (congrArg (fun π => s ((ix3 b t l : S4x4096x64.Idx).along ⟨2, last_axis⟩ (sortedFrom π l))) e) ?_
    exact congrArg s (along_lane b t l _)
  · refine Eq.trans (congrArg (fun π => y ((ix3 b t l : S4x4096x64.Idx).along ⟨2, last_axis⟩ (sortedFrom π l))) e) ?_
    exact congrArg y (along_lane b t l _)

theorem slice_lane {α : Type} (v : S4x4096x64.Idx → α) (b : Fin 4) (t : Fin 4096) (r : Fin 8) :
    extractStridedSlice S4x4096x8 (fun _ => 0) v sliceFits_S4x4096x64_S4x4096x8 (ix3 b t r)
      = v (ix3 b t (r.castLE (by decide))) := by
  unfold extractStridedSlice
  refine congrArg v (funext fun a => Fin.ext ?_)
  fin_cases a <;> exact Nat.zero_add _

/-- The values of the first eight: the score at the lane picked in each round. -/
theorem topK_values (s : FVec Ideal S4x4096x64 .f32) (b : Fin 4) (t : Fin 4096) (hs : ∀ l, 0 < lanes s b t l) (r : Fin 8) :
    (Host.topK S4x4096x8 2 (FloatOps.cmpfTotal .gt) s sliceFits_S4x4096x64_S4x4096x8).1 (ix3 b t r)
      = lanes s b t (pick (lanes s b t) r.val) := by
  unfold Host.topK
  dsimp only
  rw [slice_lane, (sort_lanes s _ b t _).1, sortedFrom_eq_pick hs r]
  rfl

/-- The positions of the first eight: the lane picked in each round. -/
theorem topK_places (s : FVec Ideal S4x4096x64 .f32) (b : Fin 4) (t : Fin 4096) (hs : ∀ l, 0 < lanes s b t l) (r : Fin 8) :
    (Host.topK S4x4096x8 2 (FloatOps.cmpfTotal .gt) s sliceFits_S4x4096x64_S4x4096x8).2 (ix3 b t r)
      = BitVec.ofNat 32 (pick (lanes s b t) r.val).val := by
  unfold Host.topK
  dsimp only
  rw [slice_lane, (sort_lanes s _ b t _).2, sortedFrom_eq_pick hs r]
  rfl

end Cert.Router

end
-- ==== Proof.Positive.lean ====
/-
  THE SCORES ARE POSITIVE. Of finite inputs every logit is a real number, so every exponential is a positive real, so is
  their sum, and so every score. The rounds need this: a struck lane holds zero, which must stay below every score.
-/
module

public import proofs.«01_k».proof.Proof.Ref
public import proofs.«01_k».proof.Proof.Gen.Pre_finite
public import Idealize.ShloMosaic.Lib.ReduceAll

@[expose] public section

noncomputable section

namespace Cert.Router

open Idealize.ShloMosaic

/-- A real number among the extended reals. -/
def Finite (a : EReal) : Prop := ∃ r : ℝ, a = (r : EReal)

theorem Finite.mul {a b : EReal} (ha : Finite a) (hb : Finite b) : Finite (a * b) := by
  obtain ⟨r, rfl⟩ := ha
  obtain ⟨s, rfl⟩ := hb
  exact ⟨r * s, (EReal.coe_mul r s).symm⟩

theorem Finite.sub {a b : EReal} (ha : Finite a) (hb : Finite b) : Finite (a - b) := by
  obtain ⟨r, rfl⟩ := ha
  obtain ⟨s, rfl⟩ := hb
  exact ⟨r - s, (EReal.coe_sub r s).symm⟩

theorem Finite.sum {ι : Type} (s : Finset ι) {f : ι → EReal} (h : ∀ i, Finite (f i)) : Finite (∑ i ∈ s, f i) := by
  classical
  induction s using Finset.induction_on with
  | empty => exact ⟨0, by simp⟩
  | insert i s hi ih =>
    rw [Finset.sum_insert hi]
    obtain ⟨r, hr⟩ := h i
    obtain ⟨q, hq⟩ := ih
    exact ⟨r + q, by rw [hr, hq, EReal.coe_add]⟩

/-- An exponential of a real number is a positive real number. -/
theorem exp_pos {a : EReal} (ha : Finite a) : Finite (Ideal.exp a) ∧ 0 < Ideal.exp a := by
  obtain ⟨r, rfl⟩ := ha
  rw [Ideal.exp_coe]
  exact ⟨⟨_, rfl⟩, EReal.coe_pos.mpr (Real.exp_pos r)⟩

/-- A quotient of positive real numbers is positive. -/
theorem div_pos_of_finite {a b : EReal} (ha : 0 < a) (hb : Finite b) (hb0 : 0 < b) : 0 < Ideal.div a b := by
  obtain ⟨s, rfl⟩ := hb
  have hs : 0 < s := EReal.coe_pos.mp hb0
  rw [Ideal.div_coe hs.ne']
  exact EReal.mul_pos ha (EReal.coe_pos.mpr (by positivity))

/-- Softmax of real logits is positive. -/
theorem softmax_pos {z : Row} (hz : ∀ l, Finite (z l)) (l : Fin 64) : 0 < softmax z l := by
  have ht : Finite (top z) := by rw [← apply_first z]; exact hz _
  have he : ∀ l, Finite (Ideal.exp (z l - top z)) ∧ 0 < Ideal.exp (z l - top z) := fun l => exp_pos ((hz l).sub ht)
  unfold softmax
  refine div_pos_of_finite (he l).2 (Finite.sum _ fun l' => (he l').1) ?_
  refine lt_of_lt_of_le (he l).2 ?_
  exact Finset.single_le_sum (f := fun l' => Ideal.exp (z l' - top z)) (fun l' _ => (he l').2.le) (Finset.mem_univ l)

theorem pos_inf : Ideal.ofBits .f32 0x7F800000#32 = ⊤ := by
  unfold Ideal.ofBits Ideal.ieee
  simp

/-- What the precondition checks of one entry. -/
theorem finite_of_abs {a : EReal} (h : FloatOps.cmpf (F := Ideal) (φ := .f32) .olt (max a (-a)) (Ideal.ofBits .f32 0x7F800000#32) = 1#1) :
    Finite a := by
  rw [pos_inf] at h
  have h' : max a (-a) < ⊤ := by
    by_contra hn
    have e : Ideal.cmp .olt (max a (-a)) ⊤ = 0#1 := by simp [Ideal.cmp, hn]
    exact absurd (e.symm.trans h) (by decide)
  obtain ⟨h1, h2⟩ := max_lt_iff.mp h'
  induction a using EReal.rec with
  | bot => simp at h2
  | top => simp at h1
  | coe r => exact ⟨r, rfl⟩

/-- The precondition: every token entry and every weight is a real number. -/
theorem finite_inputs (x : FVec Ideal Cert.Pre_finite.S4x4096x4096 .f32) (w : FVec Ideal Cert.Pre_finite.S64x4096 .f32)
    (h : Cert.Pre_finite.fn (F := Ideal) x w = fun _ => 1#1) : (∀ i, Finite (x i)) ∧ ∀ i, Finite (w i) := by
  have e := congrFun h ix0
  unfold Cert.Pre_finite.fn at e
  obtain ⟨hx, hw⟩ := IntOp.andi_eq_one.mp e
  exact ⟨fun i => finite_of_abs (Host.reduce_andi_all _ _ _ _ _ hx i), fun i => finite_of_abs (Host.reduce_andi_all _ _ _ _ _ hw i)⟩

/-- So every score is positive. -/
theorem score_pos (x : FVec Ideal Cert.Pre_finite.S4x4096x4096 .f32) (w : FVec Ideal Cert.Pre_finite.S64x4096 .f32)
    (h : Cert.Pre_finite.fn (F := Ideal) x w = fun _ => 1#1) (b : Fin 4) (t : Fin 4096) (l : Fin 64) : 0 < score x w b t l := by
  obtain ⟨hx, hw⟩ := finite_inputs x w h
  exact softmax_pos (fun l => Finite.sum _ fun d => (hx _).mul (hw _)) l

end Cert.Router

end
-- ==== Proof.Agree.lean ====
/-
  THE TWO AGREE. Of finite inputs, the reference's results are the kernel's: the same gates and the same experts.
-/
module

public import proofs.«01_k».proof.Proof.Positive

@[expose] public section

noncomputable section

namespace Cert.Router

open Idealize.ShloMosaic
open Cert.ReferenceIdeal Cert.ReferenceIdeal.Gen

variable (x : FVec Ideal S4x4096x4096 .f32) (w : FVec Ideal S64x4096 .f32)

theorem lanes_refScores (b : Fin 4) (t : Fin 4096) : lanes (refScores x w) b t = score x w b t :=
  funext fun l => refScores_apply x w b t l

/-- The first eight values and places of the reference's sort, and the values normalised. -/
abbrev refValues : FVec Ideal S4x4096x8 .f32 :=
  (Host.topK S4x4096x8 2 (FloatOps.cmpfTotal .gt) (refScores x w) sliceFits_S4x4096x64_S4x4096x8).1
abbrev refPlaces : IVec S4x4096x8 32 :=
  (Host.topK S4x4096x8 2 (FloatOps.cmpfTotal .gt) (refScores x w) sliceFits_S4x4096x64_S4x4096x8).2
def refGates (v : FVec Ideal S4x4096x8 .f32) : FVec Ideal S4x4096x8 .f32 :=
  Host.divf v (broadcastInDim S4x4096x8 ![0, 1, 2] bcast_S4x4096x1_S4x4096x8_0_1_2 (broadcastInDim S4x4096x1 ![0, 1] bcast_S4x4096_S4x4096x1_0_1
    (Host.reduceAdd v (constant S_ .f32 0x00000000#32) reducesTo_S4x4096x8_S4x4096_d2 h_S_)))

theorem refGates_apply (v : FVec Ideal S4x4096x8 .f32) (b : Fin 4) (t : Fin 4096) (r : Fin 8) :
    refGates v (ix3 b t r) = Ideal.div (v (ix3 b t r)) (∑ q : Fin 8, v (ix3 b t q)) := by
  pointwise [refGates]

variable (h : Cert.Pre_finite.fn (F := Ideal) x w = fun _ => 1#1)
include h

theorem refValues_apply (b : Fin 4) (t : Fin 4096) (r : Fin 8) :
    refValues x w (ix3 b t r) = top (after (score x w b t) r.val) := by
  have hp : ∀ l, 0 < score x w b t l := score_pos x w h b t
  refine (topK_values (refScores x w) b t (by rw [lanes_refScores]; exact hp) r).trans ?_
  rw [lanes_refScores, top_after hp r.val (by omega)]

theorem gates_agree : refGates (refValues x w) = gates x w := by
  funext j
  obtain ⟨b, t, r, rfl⟩ : ∃ (b : Fin 4) (t : Fin 4096) (r : Fin 8), j = ix3 b t r := ⟨_, _, _, eq_ix3 j⟩
  rw [refGates_apply]
  simp only [refValues_apply x w h]
  rfl

theorem experts_agree : refPlaces x w = experts x w := by
  funext j
  obtain ⟨b, t, r, rfl⟩ : ∃ (b : Fin 4) (t : Fin 4096) (r : Fin 8), j = ix3 b t r := ⟨_, _, _, eq_ix3 j⟩
  have hp : ∀ l, 0 < score x w b t l := score_pos x w h b t
  refine (topK_places (refScores x w) b t (by rw [lanes_refScores]; exact hp) r).trans ?_
  rw [lanes_refScores]
  rfl

end Cert.Router

end
-- ==== Proof.lean ====
/-
  THE CLAIM. The frames and the rewrites are the generated runs; the value claim sets the kernel's run (both results read
  at every token, `kernel_run`) beside the reference's, and of finite inputs the two agree (`gates_agree`,
  `experts_agree`).
-/
module

public import proofs.«01_k».proof.Defs
public import proofs.«01_k».proof.Proof.Gen.Packed
public import proofs.«01_k».proof.Proof.Gen.Packed.Skeleton
public import proofs.«01_k».proof.Proof.Gen.Packed.Launch
public import proofs.«01_k».proof.Proof.Gen.Packed.Points
public import proofs.«01_k».proof.Proof.Gen.Packed.Frame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference declares no semaphore and leaves its arguments. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The two programs' results agree. -/
theorem value : Cert.algebraic_KernelIdeal_ReferenceIdeal_pre_finite := by
  intro m g m' g' hpre hagree
  refine ⟨fun c => Router.gates (Router.tokens m c) (Router.weights m c),
    fun c => Router.experts (Router.tokens m c) (Router.weights m c), Router.kernel_run m g, ?_⟩
  refine (θ_run Cert.ReferenceIdeal.defs _ _).mono (fun r h c => ?_) (Cert.ReferenceIdeal.Value.run (F := Ideal) m' g')
  obtain ⟨h0, h1, h2, h3⟩ := h c
  obtain ⟨a0, a1⟩ := hagree c
  rw [a0, a1] at h0 h1
  exact ⟨h0.trans (Router.gates_agree _ _ (hpre c)), h1.trans (Router.experts_agree _ _ (hpre c)), h2, h3⟩

theorem claim : Cert.Claim := ⟨Cert.Packed.Gen.facts, Cert.Kernel.Gen.facts, Cert.KernelIdeal.Gen.facts, Cert.ReferenceIdeal.Gen.facts,
  Cert.Pre_finite.Gen.facts, fun m ρ _ => Cert.Packed.Gen.frame m ρ, fun m ρ _ => Cert.Kernel.Gen.frame m ρ,
  fun m ρ _ => Cert.KernelIdeal.Gen.frame m ρ, fun m ρ _ => Cert.KernelIdeal.Gen.frame m ρ, frame_reference,
  fun m ρ _ => frame_reference m ρ trivial, trivial, value⟩

end Cert.Proof

end
